-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_key_visible [hPre_every_key_visible : Cert.Pre_every_key_visible.Facts] (m : (ℓ : Loc Cert.KernelIdeal.nD Cert.KernelIdeal.τ Cert.KernelIdeal.sig) → Buf (Elt Ideal) ℓ) : Prop :=
  ∀ c : Dev Cert.KernelIdeal.nD,
    (Cert.Pre_every_key_visible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_key_visible [hPre_every_key_visible : Cert.Pre_every_key_visible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_key_visible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_every_key_visible [hKernelIdeal : Cert.KernelIdeal.Facts] [hPre_every_key_visible : Cert.Pre_every_key_visible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_key_visible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_every_key_visible [hReferenceIdeal : Cert.ReferenceIdeal.Facts] [hPre_every_key_visible : Cert.Pre_every_key_visible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_key_visible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_every_key_visible [hKernelIdeal : Cert.KernelIdeal.Facts] [hReferenceIdeal : Cert.ReferenceIdeal.Facts] [hPre_every_key_visible : Cert.Pre_every_key_visible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_key_visible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_every_key_visible : Cert.Pre_every_key_visible.Facts),
    quiescent_Kernel (hKernel := hKernel)
    ∧ quiescent_KernelIdeal (hKernelIdeal := hKernelIdeal)
    ∧ quiescent_KernelIdeal_pre_every_key_visible (hKernelIdeal := hKernelIdeal) (hPre_every_key_visible := hPre_every_key_visible)
    ∧ quiescent_ReferenceIdeal (hReferenceIdeal := hReferenceIdeal)
    ∧ quiescent_ReferenceIdeal_pre_every_key_visible (hReferenceIdeal := hReferenceIdeal) (hPre_every_key_visible := hPre_every_key_visible)
    ∧ preserves_Kernel_KernelIdeal
    ∧ algebraic_KernelIdeal_ReferenceIdeal_pre_every_key_visible (hKernelIdeal := hKernelIdeal) (hReferenceIdeal := hReferenceIdeal) (hPre_every_key_visible := hPre_every_key_visible)
-- ==== Pre_every_key_visible.lean ====
abbrev S1024x4096 : Shape := ⟨2, ![1024, 4096]⟩
abbrev S4096x8x128 : Shape := ⟨3, ![4096, 8, 128]⟩
abbrev S_ : Shape := ⟨0, ![]⟩

class Facts : Prop where
  reducesTo_S1024x4096_S_d0_1 : S1024x4096.ReducesTo [0, 1] S_
  h_S_ : 0 < S_.numel
  bcast_S_S1024x4096 : S_.BroadcastsInDim S1024x4096 (![] : Fin 0 → Fin S1024x4096.rank)
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn {F : FTy → Type} [FloatOps F] (main_arg0 : FVec F S1024x4096 .f32) (main_arg1 : FVec F S4096x8x128 .f32) (main_arg2 : FVec F S4096x8x128 .f32) (main_arg3 : IVec S1024x4096 1) : IVec S_ 1 :=
  let main_c : IVec S_ 1 := constantI S_ 1 1#1
  let main_v0 : IVec S_ 1 := (fun x v => Host.reduce IntOp.andi x v reducesTo_S1024x4096_S_d0_1 h_S_) main_arg3 main_c
  let main_v1 : FVec F S1024x4096 .f32 := Host.absf main_arg0
  let main_cst : FVec F S_ .f32 := constant S_ .f32 0x7F800000#32
  let main_v2 : FVec F S1024x4096 .f32 := broadcastInDim S1024x4096 ![] bcast_S_S1024x4096 main_cst
  let main_v3 : IVec S1024x4096 1 := cmpf .olt main_v1 main_v2
  let main_c_0 : IVec S_ 1 := constantI S_ 1 1#1
  let main_v4 : IVec S_ 1 := (fun x v => Host.reduce IntOp.andi x v reducesTo_S1024x4096_S_d0_1 h_S_) main_v3 main_c_0
  let main_v5 : IVec S_ 1 := andi main_v0 main_v4
  let main_v6 : FVec F S4096x8x128 .f32 := Host.absf main_arg1
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_c_2 : IVec S_ 1 := constantI S_ 1 1#1
  let main_v9 : IVec S_ 1 := (fun x v => Host.reduce IntOp.andi x v reducesTo_S4096x8x128_S_d0_1_2 h_S_) main_v8 main_c_2
  let main_v10 : IVec S_ 1 := andi main_v5 main_v9
  main_v10
-- ==== Kernel.lean ====
abbrev S1024x4096 : Shape := ⟨2, ![1024, 4096]⟩
abbrev S4096x8x128 : Shape := ⟨3, ![4096, 8, 128]⟩
abbrev S8x4096x128 : Shape := ⟨3, ![8, 4096, 128]⟩
abbrev S_ : Shape := ⟨0, ![]⟩
abbrev S8x4096x384 : Shape := ⟨3, ![8, 4096, 384]⟩
abbrev S1024x128 : Shape := ⟨2, ![1024, 128]⟩
abbrev S1x4096x384 : Shape := ⟨3, ![1, 4096, 384]⟩
abbrev S512x128 : Shape := ⟨2, ![512, 128]⟩
abbrev S1x256x128 : Shape := ⟨3, ![1, 256, 128]⟩
abbrev S256x128 : Shape := ⟨2, ![256, 128]⟩
abbrev S1x256x256 : Shape := ⟨3, ![1, 256, 256]⟩
abbrev S256x256 : Shape := ⟨2, ![256, 256]⟩
abbrev S512x256 : Shape := ⟨2, ![512, 256]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x8x128, .f32⟩
  | .hbm, ⟨2, _⟩ => ⟨S4096x8x128, .f32⟩
  | .hbm, ⟨3, _⟩ => ⟨S1024x4096, .i1⟩
  | .hbm, ⟨4, _⟩ => ⟨S4096x8x128, .bf16⟩
  | .hbm, ⟨5, _⟩ => ⟨S8x4096x128, .bf16⟩
  | .hbm, ⟨6, _⟩ => ⟨S4096x8x128, .bf16⟩
  | .hbm, ⟨7, _⟩ => ⟨S8x4096x128, .bf16⟩
  | .hbm, ⟨8, _⟩ => ⟨S_, .bf16⟩
  | .hbm, ⟨9, _⟩ => ⟨S8x4096x128, .bf16⟩
  | .hbm, ⟨10, _⟩ => ⟨S8x4096x384, .bf16⟩
  | .hbm, ⟨11, _⟩ => ⟨S1024x4096, .f32⟩
  | .local _ .vmem, ⟨0, _⟩ => ⟨S1024x128, .f32⟩
  | .local _ .vmem, ⟨1, _⟩ => ⟨S1024x128, .f32⟩
  | .local _ .vmem, ⟨2, _⟩ => ⟨S1x4096x384, .bf16⟩
  | .local _ .vmem, ⟨3, _⟩ => ⟨S1x4096x384, .bf16⟩
  | .local _ .vmem, ⟨4, _⟩ => ⟨S1024x128, .f32⟩
  | .local _ .vmem, ⟨5, _⟩ => ⟨S1024x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S1024x4096 : Shape := ⟨2, ![1024, 4096]⟩
abbrev S4096x8x128 : Shape := ⟨3, ![4096, 8, 128]⟩
abbrev S1024x32x128 : Shape := ⟨3, ![1024, 32, 128]⟩
abbrev S32x1024x128 : Shape := ⟨3, ![32, 1024, 128]⟩
abbrev S8x128x4096 : Shape := ⟨3, ![8, 128, 4096]⟩
abbrev S8x4x128x4096 : Shape := ⟨4, ![8, 4, 128, 4096]⟩
abbrev S32x128x4096 : Shape := ⟨3, ![32, 128, 4096]⟩
abbrev S8x4096x128 : Shape := ⟨3, ![8, 4096, 128]⟩
abbrev S8x4x4096x128 : Shape := ⟨4, ![8, 4, 4096, 128]⟩
abbrev S32x4096x128 : Shape := ⟨3, ![32, 4096, 128]⟩
abbrev S_ : Shape := ⟨0, ![]⟩
abbrev S32x1024x4096 : Shape := ⟨3, ![32, 1024, 4096]⟩
abbrev S1x1024x4096 : Shape := ⟨3, ![1, 1024, 4096]⟩
abbrev S32x1024 : Shape := ⟨2, ![32, 1024]⟩
abbrev S32x1024x1 : Shape := ⟨3, ![32, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x8x128, .f32⟩
  | .hbm, ⟨2, _⟩ => ⟨S4096x8x128, .f32⟩
  | .hbm, ⟨3, _⟩ => ⟨S1024x4096, .i1⟩
  | .hbm, ⟨4, _⟩ => ⟨S1024x32x128, .f32⟩
  | .hbm, ⟨5, _⟩ => ⟨S32x1024x128, .f32⟩
  | .hbm, ⟨6, _⟩ => ⟨S8x128x4096, .f32⟩
  | .hbm, ⟨7, _⟩ => ⟨S8x4x128x4096, .f32⟩
  | .hbm, ⟨8, _⟩ => ⟨S32x128x4096, .f32⟩
  | .hbm, ⟨9, _⟩ => ⟨S8x4096x128, .f32⟩
  | .hbm, ⟨10, _⟩ => ⟨S8x4x4096x128, .f32⟩
  | .hbm, ⟨11, _⟩ => ⟨S32x4096x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x1024x4096, .f32⟩
  | .hbm, ⟨17, _⟩ => ⟨S32x1024x4096, .f32⟩
  | .hbm, ⟨18, _⟩ => ⟨S32x1024x4096, .f32⟩
  | .hbm, ⟨19, _⟩ => ⟨S1x1024x4096, .i1⟩
  | .hbm, ⟨20, _⟩ => ⟨S_, .f32⟩
  | .hbm, ⟨21, _⟩ => ⟨S32x1024x4096, .i1⟩
  | .hbm, ⟨22, _⟩ => ⟨S32x1024x4096, .f32⟩
  | .hbm, ⟨23, _⟩ => ⟨S32x1024x4096, .f32⟩
  | .hbm, ⟨24, _⟩ => ⟨S_, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024x1, .f32⟩
  | .hbm, ⟨30, _⟩ => ⟨S32x1024x4096, .f32⟩
  | .hbm, ⟨31, _⟩ => ⟨S32x1024x4096, .f32⟩
  | .hbm, ⟨32, _⟩ => ⟨S32x1024x4096, .f32⟩
  | .hbm, ⟨33, _⟩ => ⟨S_, .f32⟩
  | .hbm, ⟨34, _⟩ => ⟨S32x1024, .f32⟩
  | .hbm, ⟨35, _⟩ => ⟨S32x1024x1, .f32⟩
  | .hbm, ⟨36, _⟩ => ⟨S32x1024x4096, .f32⟩
  | .hbm, ⟨37, _⟩ => ⟨S32x1024x4096, .f32⟩
  | .hbm, ⟨38, _⟩ => ⟨S32x1024x128, .f32⟩
  | .hbm, ⟨39, _⟩ => ⟨S1024x32x128, .f32⟩
  | .hbm, ⟨40, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Body.lean ====
/- What one grid point of the kernel computes. The body walks the 4096 keys of one key head in sixteen chunks of 256:
   it takes the scores of its query rows against a chunk, raises two to them, and adds the weighted values (and, in the
   column of ones, the weights) to an accumulator; at the end it divides the values' columns by the weights' column.
   The two halves of the 1024 query rows run the same chain. -/
module

public import proofs.«01_k».proof.Defs
public import proofs.«01_k».proof.Proof.Gen.KernelIdeal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Attn

open Idealize.ShloMosaic Idealize.ShloMosaic.TcCoe
open Cert.KernelIdeal Cert.KernelIdeal.Gen

/-- A load of the chunk of the keys that starts at key `256 * n`. -/
def keys (x1 : Vec Ideal S1x4096x384 .bf16) (n : Fin 16) : FVec Ideal S256x128 .bf16 :=
  shapeCast S256x128 (View.ld x1 (Rect.unit ![0, 256 * n.val, 0] S1x256x128.size
    (by have := n.isLt; intro a; fin_cases a <;> simp [S1x256x128, S1x4096x384] <;> omega))) shapeCasts_S1x256x128_S256x128

/-- A load of the same chunk of the values and of the ones beside them. -/
def vals (x1 : Vec Ideal S1x4096x384 .bf16) (n : Fin 16) : FVec Ideal S256x256 .bf16 :=
  shapeCast S256x256 (View.ld x1 (Rect.unit ![0, 256 * n.val, 128] S1x256x256.size
    (by have := n.isLt; intro a; fin_cases a <;> simp [S1x256x256, S1x4096x384] <;> omega))) shapeCasts_S1x256x256_S256x256

/-- One chunk's contribution to the accumulator. -/
def step (q : FVec Ideal S512x128 .bf16) (kb : FVec Ideal S256x128 .bf16) (vb : FVec Ideal S256x256 .bf16) :
    FVec Ideal S512x256 .f32 :=
  matmul dot_S512x256_S256x256_S512x256_1_0_0_1_n_n none
    (truncf .bf16 (exp2 (matmul dot_S512x128_S256x128_S512x256_1_1_0_0_n_n none q kb
      (constant S512x256 .f32 0x00000000#32))) bitsLt_bf16_f32) vb (constant S512x256 .f32 0x00000000#32)

/-- The accumulator after the chunks `0 … n`. -/
def acc (q : FVec Ideal S512x128 .bf16) (x1 : Vec Ideal S1x4096x384 .bf16) : Nat → FVec Ideal S512x256 .f32
  | 0 => step q (keys x1 0) (vals x1 0)
  | n + 1 => addf (acc q x1 n) (step q (keys x1 (Fin.ofNat 16 (n + 1))) (vals x1 (Fin.ofNat 16 (n + 1))))

/-- The last operations: the values' columns over the weights' column. -/
def finish (a : FVec Ideal S512x256 .f32) : FVec Ideal S512x128 .f32 :=
  divf (extractStridedSlice S512x128 ![0, 0] a slices_S512x256_o0_0_S512x128)
    (broadcastTo S512x128 (extractStridedSlice S512x1 ![0, 128] a slices_S512x256_o0_128_S512x1) broadcasts_S512x1_S512x128)

/-- The two row halves the body stores are the chain's end, each from its own half of the scaled queries. -/
theorem out_eq (x0 : Vec Ideal S1024x128 .f32) (x1 : Vec Ideal S1x4096x384 .bf16) :
    out0_2 x0 x1 = View.canon [⟨r0_34, finish (acc (k0_pay7 (View.ld x0 r0_0)) x1 15)⟩,
      ⟨r0_33, finish (acc (k0_pay6 (View.ld x0 r0_0)) x1 15)⟩] := by
  rfl

/-- The score of query row `r` of the block against key `κ`. -/
def score (x0 : Vec Ideal S1024x128 .f32) (x1 : Vec Ideal S1x4096x384 .bf16) (r : Fin 1024) (κ : Fin 4096) : EReal :=
  ∑ d : Fin 128, x0 (ix2 r d) * (((Real.log 2)⁻¹ * (Real.sqrt 128)⁻¹ : ℝ) : EReal) * x1 (ix3 0 κ ⟨d.val, by omega⟩)

/-- The keys' sum in column `e` (a column of the values, or of the ones) of query row `r`. -/
def total (x0 : Vec Ideal S1024x128 .f32) (x1 : Vec Ideal S1x4096x384 .bf16) (r : Fin 1024) (e : Fin 256) : EReal :=
  ∑ κ : Fin 4096, Ideal.exp2 (score x0 x1 r κ) * x1 (ix3 0 κ ⟨128 + e.val, by omega⟩)

/-- A chunk of keys without its leading unit axis, read at a key and a feature. -/
theorem cast_keys (y : FVec Ideal S1x256x128 .bf16) (t : Fin 256) (d : Fin 128) :
    shapeCast S256x128 y shapeCasts_S1x256x128_S256x128 (ix2 t d) = y (ix3 0 t d) := by pointwise

/-- A chunk of values without its leading unit axis, read at a key and a column. -/
theorem cast_vals (y : FVec Ideal S1x256x256 .bf16) (t : Fin 256) (e : Fin 256) :
    shapeCast S256x256 y shapeCasts_S1x256x256_S256x256 (ix2 t e) = y (ix3 0 t e) := by pointwise

/-- A chunk of the keys, read at a key and a feature. -/
theorem keys_apply (x1 : Vec Ideal S1x4096x384 .bf16) (n : Fin 16) (t : Fin 256) (d : Fin 128) :
    keys x1 n (ix2 t d) = x1 (ix3 0 ⟨n.val * 256 + t.val, by omega⟩ ⟨d.val, by omega⟩) := by
  refine (cast_keys _ t d).trans ?_
  refine View.ld_unit_apply_of _ _ _ _ _ _ fun a => ?_
  match a with
  | ⟨0, _⟩ => rfl
  | ⟨1, _⟩ => show n.val * 256 + t.val = 256 * n.val + t.val; omega
  | ⟨2, _⟩ => show d.val = 0 + d.val; omega

/-- A chunk of the values, read at a key and a column. -/
theorem vals_apply (x1 : Vec Ideal S1x4096x384 .bf16) (n : Fin 16) (t : Fin 256) (e : Fin 256) :
    vals x1 n (ix2 t e) = x1 (ix3 0 ⟨n.val * 256 + t.val, by omega⟩ ⟨128 + e.val, by omega⟩) := by
  refine (cast_vals _ t e).trans ?_
  refine View.ld_unit_apply_of _ _ _ _ _ _ fun a => ?_
  match a with
  | ⟨0, _⟩ => rfl
  | ⟨1, _⟩ => show n.val * 256 + t.val = 256 * n.val + t.val; omega
  | ⟨2, _⟩ => rfl

/-- One chunk's contribution, read at a row and a column. -/
theorem step_apply (q : FVec Ideal S512x128 .bf16) (kb : FVec Ideal S256x128 .bf16) (vb : FVec Ideal S256x256 .bf16)
    (r : Fin 512) (e : Fin 256) :
    step q kb vb (ix2 r e) = ∑ t : Fin 256, Ideal.exp2 (∑ d : Fin 128, q (ix2 r d) * kb (ix2 t d)) * vb (ix2 t e) := by
  pointwise [step]
  rfl

/-- The accumulator after the chunks `0 … n`, read at a row and a column: the sum of the chunks' contributions. -/
theorem acc_apply (q : FVec Ideal S512x128 .bf16) (x1 : Vec Ideal S1x4096x384 .bf16) (j : S512x256.Idx) (n : Nat) :
    acc q x1 n j = ∑ i ∈ Finset.range (n + 1), step q (keys x1 (Fin.ofNat 16 i)) (vals x1 (Fin.ofNat 16 i)) j := by
  induction n with
  | zero => rw [Finset.sum_range_one]; rfl
  | succ n ih => rw [Finset.sum_range_succ, ← ih]; rfl

/-- The accumulator after the last chunk, read at a row and a column: one sum over all the keys. -/
theorem acc_last (q : FVec Ideal S512x128 .bf16) (x1 : Vec Ideal S1x4096x384 .bf16) (r : Fin 512) (e : Fin 256) :
    acc q x1 15 (ix2 r e) = ∑ κ : Fin 4096,
      Ideal.exp2 (∑ d : Fin 128, q (ix2 r d) * x1 (ix3 0 κ ⟨d.val, by omega⟩)) * x1 (ix3 0 κ ⟨128 + e.val, by omega⟩) := by
  rw [acc_apply, Finset.sum_range]
  refine Eq.trans ?_ (Fin.sum_univ_tiles (N := 4096) 16 256 (by norm_num) _).symm
  refine Finset.sum_congr rfl fun (i : Fin 16) _ => ?_
  have hi : Fin.ofNat 16 i.val = i := Fin.ext (Nat.mod_eq_of_lt i.isLt)
  rw [step_apply, hi]
  refine Finset.sum_congr rfl fun t _ => ?_
  rw [vals_apply]
  simp only [keys_apply]

/-- The end, read at a row and a column: the quotient by the first column of the weights. -/
theorem finish_apply (a : FVec Ideal S512x256 .f32) (r : Fin 512) (c : Fin 128) :
    finish a (ix2 r c) = Ideal.div (a (ix2 r ⟨c.val, by omega⟩)) (a (ix2 r 128)) := by
  pointwise [finish]

/-- The upper half's scaled queries. -/
theorem pay6_apply (x0 : Vec Ideal S1024x128 .f32) (r : Fin 512) (d : Fin 128) :
    k0_pay6 x0 (ix2 r d)
      = x0 (ix2 ⟨r.val, by omega⟩ d) * (((Real.log 2)⁻¹ * (Real.sqrt 128)⁻¹ : ℝ) : EReal) := by
  pointwise [k0_pay6, k0_pay5]
  rfl

/-- The lower half's scaled queries. -/
theorem pay7_apply (x0 : Vec Ideal S1024x128 .f32) (r : Fin 512) (d : Fin 128) :
    k0_pay7 x0 (ix2 r d)
      = x0 (ix2 ⟨512 + r.val, by omega⟩ d) * (((Real.log 2)⁻¹ * (Real.sqrt 128)⁻¹ : ℝ) : EReal) := by
  pointwise [k0_pay7, k0_pay5]
  rfl

/-- What the body stores, as one function of the block's row and column. -/
def value (x0 : Vec Ideal S1024x128 .f32) (x1 : Vec Ideal S1x4096x384 .bf16) (r : Fin 1024) (c : Fin 128) : EReal :=
  Ideal.div (total x0 x1 r ⟨c.val, by omega⟩) (total x0 x1 r 128)

/-- The whole block of queries is loaded as it is. -/
theorem ld_whole (x0 : Vec Ideal S1024x128 .f32) : View.ld x0 r0_0 = x0 :=
  View.ld_unit_zero (funext fun a => by fin_cases a <;> rfl) _ _

/-- The lower half's piece, read at a row and a column of that half. -/
theorem lower_apply (x0 : Vec Ideal S1024x128 .f32) (x1 : Vec Ideal S1x4096x384 .bf16) (r : Fin 512) (c : Fin 128) :
    finish (acc (k0_pay7 x0) x1 15) (ix2 r c) = value x0 x1 ⟨512 + r.val, by omega⟩ c := by
  rw [finish_apply, acc_last, acc_last]
  simp only [pay7_apply]
  rfl

/-- The upper half's piece, read at a row and a column of that half. -/
theorem upper_apply (x0 : Vec Ideal S1024x128 .f32) (x1 : Vec Ideal S1x4096x384 .bf16) (r : Fin 512) (c : Fin 128) :
    finish (acc (k0_pay6 x0) x1 15) (ix2 r c) = value x0 x1 ⟨r.val, by omega⟩ c := by
  rw [finish_apply, acc_last, acc_last]
  simp only [pay6_apply]
  rfl

/-- The output block as one function of its index. -/
def block (x0 : Vec Ideal S1024x128 .f32) (x1 : Vec Ideal S1x4096x384 .bf16) : Vec Ideal S1024x128 .f32 :=
  fun y => value x0 x1 (y 0) (y 1)

/-- The block at an index given by its two coordinates. -/
theorem block_of (x0 : Vec Ideal S1024x128 .f32) (x1 : Vec Ideal S1x4096x384 .bf16) (y : S1024x128.Idx)
    (r : Fin 1024) (c : Fin 128) (h0 : (y 0).val = r.val) (h1 : (y 1).val = c.val) : block x0 x1 y = value x0 x1 r c := by
  obtain rfl : y 0 = r := Fin.ext h0
  obtain rfl : y 1 = c := Fin.ext h1
  rfl

/-- Two pieces that agree with one function of the block's index, one per row half, leave that function. -/
theorem canon_halves (G : Vec Ideal S1024x128 .f32) (p q : Vec Ideal S512x128 .f32)
    (hp : ∀ x, p x = G (r0_34.emb x)) (hq : ∀ x, q x = G (r0_33.emb x)) :
    View.canon (Val := Elt Ideal) [⟨r0_34, p⟩, ⟨r0_33, q⟩] = G :=
  funext fun y => View.canon_apply_of_pieces G _
    (List.forall_mem_cons.2 ⟨hp, List.forall_mem_cons.2 ⟨hq, fun _ h => absurd h List.not_mem_nil⟩⟩) y (cover0_2 p q y)

/-- The output block the body leaves is `value` at every row and column. -/
theorem out_apply (x0 : Vec Ideal S1024x128 .f32) (x1 : Vec Ideal S1x4096x384 .bf16) :
    out0_2 x0 x1 = block x0 x1 := by
  rw [out_eq, ld_whole]
  refine canon_halves _ _ _ (fun x => ?_) (fun x => ?_)
  · obtain ⟨r, c, rfl⟩ : ∃ (r : Fin 512) (c : Fin 128), x = ix2 r c := ⟨x 0, x 1, by idx_ext⟩
    exact (lower_apply x0 x1 r c).trans (block_of _ _ _ _ _ (Rect.idx_unit_val _ _ _ _ _)
      ((Rect.idx_unit_val _ _ _ _ _).trans (Nat.zero_add _))).symm
  · obtain ⟨r, c, rfl⟩ : ∃ (r : Fin 512) (c : Fin 128), x = ix2 r c := ⟨x 0, x 1, by idx_ext⟩
    exact (upper_apply x0 x1 r c).trans (block_of _ _ _ _ _ ((Rect.idx_unit_val _ _ _ _ _).trans (Nat.zero_add _))
      ((Rect.idx_unit_val _ _ _ _ _).trans (Nat.zero_add _))).symm

end Cert.KernelIdeal.Attn

end
-- ==== Proof.Array.lean ====
/- What the kernel's result array holds when the run ends. The host puts each key head's keys, values and ones side by
   side; grid point `t` handles query head `t` (whose key head is `t / 4`), reads the head's 128 columns of the queries
   and writes the head's 128 columns of the result. -/
module

public import proofs.«01_k».proof.Proof.Body
public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen
open Idealize.ShloMosaic.Pipeline (Dat)

/-- Three arrays side by side along the last axis. -/
def beside (a b c : Vec Ideal S8x4096x128 .bf16) : Vec Ideal S8x4096x384 .bf16 :=
  concatenate S8x4096x384 2 [⟨S8x4096x128, a⟩, ⟨S8x4096x128, b⟩, ⟨S8x4096x128, c⟩]
    concatenates_S8x4096x128_S8x4096x128_S8x4096x128_S8x4096x384_d2

/-- The key head's axis brought to the front. -/
def front (k : Vec Ideal S4096x8x128 .f32) : Vec Ideal S8x4096x128 .bf16 :=
  transpose S8x4096x128 [1, 0, 2] (truncf (F := Ideal) (s := S4096x8x128) (φ := .f32) .bf16 k bitsLt_bf16_f32) transposes_S4096x8x128_S8x4096x128_1_0_2

/-- The ones. -/
def ones : Vec Ideal S8x4096x128 .bf16 :=
  broadcastInDim S8x4096x128 ![] bcast_S_S8x4096x128 (constant (F := Ideal) S_ .bf16 0x3F80#16)

/-- Keys, values and ones side by side, one slab per key head. -/
def slab (k v : Vec Ideal S4096x8x128 .f32) : Vec Ideal S8x4096x384 .bf16 := beside (front k) (front v) ones

/-- The first 128 columns of the slab are the keys. -/
theorem slab_key (k v : Vec Ideal S4096x8x128 .f32) (g : Fin 8) (κ : Fin 4096) (d : Fin 128) :
    slab k v (ix3 g κ ⟨d.val, by omega⟩) = k (ix3 κ g d) := by
  pointwise [slab, beside, front, ones]

/-- The next 128 columns of the slab are the values. -/
theorem slab_val (k v : Vec Ideal S4096x8x128 .f32) (g : Fin 8) (κ : Fin 4096) (e : Fin 128) :
    slab k v (ix3 g κ ⟨128 + e.val, by omega⟩) = v (ix3 κ g e) := by
  pointwise [slab, beside, front, ones]

/-- The column after the values holds ones. -/
theorem slab_one (k v : Vec Ideal S4096x8x128 .f32) (g : Fin 8) (κ : Fin 4096) :
    slab k v (ix3 g κ 256) = (1 : EReal) := by
  pointwise [slab, beside, front, ones]

variable (m : (ℓ : Loc nD τ sig) → Buf (Elt Ideal) ℓ)

/-- When the region is entered, the second window's array holds the slabs of the launched keys and values. -/
theorem V_slab (c : Dev nD) :
    V m c main_v5 = slab (m ((c.tc : Thread nD τ).loc main_arg1)) (m ((c.tc : Thread nD τ).loc main_arg2)) := by
  dsimp only [V]
  simp only [hostOps0]
  after_results_simp
  show beside _ _ _ = beside _ _ _
  congr 1

/-- The block index of the queries' window: all rows, the point's own head. -/
theorem index0 : ∀ t : Fin cfg0.N, win0_0.index t = ![0, t.val] :=
  (by decide +kernel : ∀ t : Fin grid0.N, win0_0.index t = ![0, t.val])

/-- The block index of the slabs' window: the point's key head. -/
theorem index1 : ∀ t : Fin cfg0.N, win0_1.index t = ![t.val / 4, 0, 0] :=
  (by decide +kernel : ∀ t : Fin grid0.N, win0_1.index t = ![t.val / 4, 0, 0])

/-- The block index of the result's window: all rows, the point's own head. -/
theorem index2 : ∀ t : Fin cfg0.N, win0_2.index t = ![0, t.val] :=
  (by decide +kernel : ∀ t : Fin grid0.N, win0_2.index t = ![0, t.val])

/-- There are 32 grid points. -/
theorem point_lt (t : Fin cfg0.N) : t.val < 32 := by
  have h := t.isLt
  have e : cfg0.N = 32 := N_0
  omega

/-- The query block of point `t`, read at a row and a feature. -/
theorem iblk0_apply (c : Dev nD) (t : Fin cfg0.N) (r : Fin 1024) (d : Fin 128) :
    iblk m c 0 t (ix2 r d) = m ((c.tc : Thread nD τ).loc main_arg0)
      (ix2 r ⟨t.val * 128 + d.val, by have := point_lt t; omega⟩) := by
  blk_simp [iblk]
  rw [V_main_arg0]
  congr 1
  blk_ext [index0]

/-- The slab block of point `t`, read at a key and a column. -/
theorem iblk1_apply (c : Dev nD) (t : Fin cfg0.N) (κ : Fin 4096) (d : Fin 384) :
    iblk m c 1 t (ix3 0 κ d) = slab (m ((c.tc : Thread nD τ).loc main_arg1)) (m ((c.tc : Thread nD τ).loc main_arg2))
      (ix3 ⟨t.val / 4, by have := point_lt t; omega⟩ κ d) := by
  rw [← V_slab]
  blk_simp [iblk]
  congr 1
  blk_ext [index1]

/-- The power of two the kernel takes: the score of query row `r` of head `h` against key `κ`, on the scale of base two. -/
def weight (q : Vec Ideal S1024x4096 .f32) (k : Vec Ideal S4096x8x128 .f32) (r : Fin 1024) (h : Fin 32) (κ : Fin 4096) : EReal :=
  Ideal.exp2 (∑ d : Fin 128, q (ix2 r ⟨h.val * 128 + d.val, by omega⟩)
    * (((Real.log 2)⁻¹ * (Real.sqrt 128)⁻¹ : ℝ) : EReal) * k (ix3 κ ⟨h.val / 4, by omega⟩ d))

/-- The kernel's result at row `r`, head `h` and feature `e`: weighted values over weights. -/
def headOut (q : Vec Ideal S1024x4096 .f32) (k v : Vec Ideal S4096x8x128 .f32) (r : Fin 1024) (h : Fin 32) (e : Fin 128) : EReal :=
  Ideal.div (∑ κ : Fin 4096, weight q k r h κ * v (ix3 κ ⟨h.val / 4, by omega⟩ e)) (∑ κ : Fin 4096, weight q k r h κ)

/-- The kernel's whole result: column `j` belongs to head `j / 128`, feature `j % 128`. -/
def attn (q : Vec Ideal S1024x4096 .f32) (k v : Vec Ideal S4096x8x128 .f32) : Vec Ideal S1024x4096 .f32 := fun i =>
  headOut q k v (i 0) ⟨(i 1).val / 128, by have : (i 1).val < 4096 := (i 1).isLt; omega⟩ ⟨(i 1).val % 128, Nat.mod_lt _ (by norm_num)⟩

/-- The score of a block's row against a key, in the arrays' own coordinates. -/
theorem score_iblk (c : Dev nD) (t : Fin cfg0.N) (r : Fin 1024) (κ : Fin 4096) :
    Ideal.exp2 (score (iblk m c 0 t) (iblk m c 1 t) r κ) = weight (m ((c.tc : Thread nD τ).loc main_arg0))
      (m ((c.tc : Thread nD τ).loc main_arg1)) r ⟨t.val, point_lt t⟩ κ := by
  rw [score, weight]
  congr 1
  refine Finset.sum_congr rfl fun d _ => ?_
  rw [iblk0_apply, iblk1_apply, slab_key]

/-- What the body leaves at point `t`, in the arrays' own coordinates. -/
theorem value_iblk (c : Dev nD) (t : Fin cfg0.N) (r : Fin 1024) (e : Fin 128) :
    value (iblk m c 0 t) (iblk m c 1 t) r e = headOut (m ((c.tc : Thread nD τ).loc main_arg0))
      (m ((c.tc : Thread nD τ).loc main_arg1)) (m ((c.tc : Thread nD τ).loc main_arg2)) r ⟨t.val, point_lt t⟩ e := by
  rw [value, headOut, total, total]
  refine congrArg₂ Ideal.div ?_ ?_
  · refine Finset.sum_congr rfl fun κ _ => ?_
    rw [score_iblk, iblk1_apply]
    exact congrArg _ (slab_val _ _ _ _ e)
  · refine Finset.sum_congr rfl fun κ _ => ?_
    rw [score_iblk, iblk1_apply]
    exact (congrArg _ (slab_one _ _ _ _)).trans (mul_one _)

/-- The whole result, read at an index given by its row and its head's column. -/
theorem attn_of (q : Vec Ideal S1024x4096 .f32) (k v : Vec Ideal S4096x8x128 .f32) (i : S1024x4096.Idx)
    (r : Fin 1024) (h : Fin 32) (e : Fin 128) (h0 : (i 0).val = r.val) (h1 : (i 1).val = h.val * 128 + e.val) :
    attn q k v i = headOut q k v r h e := by
  rw [attn]
  congr 1
  · exact Fin.ext h0
  · exact Fin.ext (by show (i 1).val / 128 = h.val; omega)
  · exact Fin.ext (by show (i 1).val % 128 = e.val; omega)

/-- After the run the result array holds the attention of the launched arrays. -/
theorem final (c : Dev nD) :
    (dats m 0 c).arrAt 2 cfg0.N = attn (m ((c.tc : Thread nD τ).loc main_arg0))
      (m ((c.tc : Thread nD τ).loc main_arg1)) (m ((c.tc : Thread nD τ).loc main_arg2)) := by
  refine (dats m 0 c).arrAt_eq_of_covers 2 _ (by decide +kernel) fun t hf y => ?_
  blk_simp
  rw [after0_2, out_apply]
  refine (value_iblk m c t (y 0) (y 1)).trans (attn_of _ _ _ _ _ _ _ ?_ ?_).symm
  · blk_simp [index2]
    try omega
  · blk_simp [index2]
    try omega

end Cert.KernelIdeal.Attn

end
-- ==== Proof.Consts.lean ====
/- The constants the reference spells, as the extended reals they denote. -/
module

public import Idealize.ShloMosaic.PureOps.Ideal

@[expose] public section

noncomputable section

namespace Cert.AttnConsts

open Idealize.ShloMosaic

/-- The pattern of `128.0` denotes the real 128. -/
theorem head_dim : Ideal.ofBits .f32 0x43000000#32 = ((128 : ℝ) : EReal) := by
  simp [Ideal.ofBits, Ideal.ieee, -EReal.coe_mul]; norm_num

/-- The pattern of minus infinity denotes the least extended real. -/
theorem neg_inf : Ideal.ofBits .f32 0xFF800000#32 = ⊥ := by
  simp [Ideal.ofBits, Ideal.ieee]

/-- The pattern of infinity denotes the greatest extended real. -/
theorem pos_inf : Ideal.ofBits .f32 0x7F800000#32 = ⊤ := by
  simp [Ideal.ofBits, Ideal.ieee]

/-- One over the root of the head dimension denotes the real `(√128)⁻¹`. -/
theorem scale : Ideal.div 1 (Ideal.sqrt (Ideal.ofBits .f32 0x43000000#32)) = (((Real.sqrt 128)⁻¹ : ℝ) : EReal) := by
  have h : Real.sqrt 128 ≠ 0 := (Real.sqrt_pos.2 (by norm_num)).ne'
  rw [head_dim, Ideal.sqrt_coe, if_neg (by norm_num), Ideal.div_coe h, one_mul, one_div]

end Cert.AttnConsts

end
-- ==== Proof.Reference.lean ====
/- What the reference computes, read at a row, a head and a feature: the scores of the row against every key of the
   head's key head, scaled; their softmax; the values weighted by it. -/
module

public import proofs.«01_k».proof.Defs
public import proofs.«01_k».proof.Proof.Gen.ReferenceIdeal.Run
public import Idealize.ShloMosaic.Lib.Pointwise
public import proofs.«01_k».proof.Proof.Consts

@[expose] public section

set_option maxRecDepth 16384

noncomputable section

namespace Cert.ReferenceIdeal.Attn

open Idealize.ShloMosaic Idealize.ShloMosaic.TcCoe
open Cert.ReferenceIdeal Cert.ReferenceIdeal.Gen

/-- The scaled scores of every head, with the masked positions at the large negative constant. -/
def logits (q : FVec Ideal S1024x4096 .f32) (k : FVec Ideal S4096x8x128 .f32) (mask : IVec S1024x4096 1) :
    FVec Ideal S32x1024x4096 .f32 :=
  select (broadcastInDim S32x1024x4096 ![0, 1, 2] bcast_S1x1024x4096_S32x1024x4096_0_1_2
      (broadcastInDim S1x1024x4096 ![1, 2] bcast_S1024x4096_S1x1024x4096_1_2 mask))
    (mulf (Host.dotGeneral dot_S32x1024x128_S32x128x4096_S32x1024x4096_2_1_1_2_0_0 none
        (transpose S32x1024x128 [1, 0, 2] (shapeCast _ q shapeCasts_S1024x4096_S1024x32x128) transposes_S1024x32x128_S32x1024x128_1_0_2)
        (shapeCast _ (broadcastInDim S8x4x128x4096 ![0, 2, 3] bcast_S8x128x4096_S8x4x128x4096_0_2_3
          (transpose S8x128x4096 [1, 2, 0] k transposes_S4096x8x128_S8x128x4096_1_2_0)) shapeCasts_S8x4x128x4096_S32x128x4096))
      (broadcastInDim S32x1024x4096 ![] bcast_S_S32x1024x4096
        (Host.divf (constant S_ .f32 0x3F800000#32) (Host.sqrt (constant S_ .f32 0x43000000#32)))))
    (broadcastInDim S32x1024x4096 ![] bcast_S_S32x1024x4096 (constant S_ .f32 0xCE6E6B28#32))

/-- The maximum of every row. -/
def rowMax (x : FVec Ideal S32x1024x4096 .f32) : FVec Ideal S32x1024 .f32 :=
  Host.reduce FloatOps.maximumf x (constant S_ .f32 0xFF800000#32) reducesTo_S32x1024x4096_S32x1024_d2 h_S_

/-- The scores less a number per row. -/
def less (x : FVec Ideal S32x1024x4096 .f32) (y : FVec Ideal S32x1024 .f32) : FVec Ideal S32x1024x4096 .f32 :=
  subf x (broadcastInDim S32x1024x4096 ![0, 1, 2] bcast_S32x1024x1_S32x1024x4096_0_1_2
    (broadcastInDim S32x1024x1 ![0, 1] bcast_S32x1024_S32x1024x1_0_1
      (maximumf (broadcastInDim S32x1024 ![] bcast_S_S32x1024 (constant S_ .f32 0xFF800000#32)) y)))

/-- The scores less their row's maximum. -/
def shifted (x : FVec Ideal S32x1024x4096 .f32) : FVec Ideal S32x1024x4096 .f32 := less x (rowMax x)

/-- The exponentials of the scores less their row's maximum. -/
def exps (x : FVec Ideal S32x1024x4096 .f32) : FVec Ideal S32x1024x4096 .f32 := Host.exp (shifted x)

/-- A row over its sum. -/
def shares (w : FVec Ideal S32x1024x4096 .f32) : FVec Ideal S32x1024x4096 .f32 :=
  Host.divf w (broadcastInDim S32x1024x4096 ![0, 1, 2] bcast_S32x1024x1_S32x1024x4096_0_1_2
    (broadcastInDim S32x1024x1 ![0, 1] bcast_S32x1024_S32x1024x1_0_1
      (Host.reduceAdd w (constant S_ .f32 0x00000000#32) reducesTo_S32x1024x4096_S32x1024_d2 h_S_)))

/-- The values weighted by the rows, heads back side by side. -/
def mix (p : FVec Ideal S32x1024x4096 .f32) (v : FVec Ideal S4096x8x128 .f32) : FVec Ideal S1024x4096 .f32 :=
  shapeCast _ (transpose S1024x32x128 [1, 0, 2]
    (Host.dotGeneral dot_S32x1024x4096_S32x4096x128_S32x1024x128_2_1_1_2_0_0 none p
      (shapeCast _ (broadcastInDim S8x4x4096x128 ![0, 2, 3] bcast_S8x4096x128_S8x4x4096x128_0_2_3
        (transpose S8x4096x128 [1, 0, 2] v transposes_S4096x8x128_S8x4096x128_1_0_2)) shapeCasts_S8x4x4096x128_S32x4096x128))
    transposes_S32x1024x128_S1024x32x128_1_0_2) shapeCasts_S1024x32x128_S1024x4096

/-- The reference's result is these four steps of its arguments. -/
theorem res_eq (m : (ℓ : Loc nD τ sig) → Buf (Elt Ideal) ℓ) (c : Dev nD) :
    Value.res_main_v28 m c = mix (shares (exps (logits (m ((c.tc : Thread nD τ).loc main_arg0))
      (m ((c.tc : Thread nD τ).loc main_arg1)) (m ((c.tc : Thread nD τ).loc main_arg3)))))
      (m ((c.tc : Thread nD τ).loc main_arg2)) := by
  unfold Value.res_main_v28 mix shares exps shifted less rowMax logits
  rfl

/-- The scaled score of row `r` of head `h` against key `κ`. -/
def logit (q : FVec Ideal S1024x4096 .f32) (k : FVec Ideal S4096x8x128 .f32) (r : Fin 1024) (h : Fin 32) (κ : Fin 4096) : EReal :=
  (∑ d : Fin 128, q (ix2 r ⟨h.val * 128 + d.val, by omega⟩) * k (ix3 κ ⟨h.val / 4, by omega⟩ d))
    * ((Real.sqrt 128)⁻¹ : ℝ)

/-- Where every position is visible the scores are the scaled products. -/
theorem logits_apply (q : FVec Ideal S1024x4096 .f32) (k : FVec Ideal S4096x8x128 .f32) (mask : IVec S1024x4096 1)
    (hm : ∀ i, mask i = 1#1) (h : Fin 32) (r : Fin 1024) (κ : Fin 4096) :
    logits q k mask (ix3 h r κ) = logit q k r h κ := by
  pointwise [logits]
  rw [hm, AttnConsts.scale]
  rfl

/-- The maximum of a row, folded from the least extended real. -/
theorem rowMax_apply (x : FVec Ideal S32x1024x4096 .f32) (h : Fin 32) (r : Fin 1024) :
    rowMax x (ix2 h r) = Finset.univ.fold max ⊥ fun j : Fin 4096 => x (ix3 h r j) := by
  pointwise [rowMax]
  rw [AttnConsts.neg_inf]

/-- The scores less a number per row, at a position. -/
theorem less_apply (x : FVec Ideal S32x1024x4096 .f32) (y : FVec Ideal S32x1024 .f32) (h : Fin 32) (r : Fin 1024) (κ : Fin 4096) :
    less x y (ix3 h r κ) = x (ix3 h r κ) - max (Ideal.ofBits .f32 0xFF800000#32) (y (ix2 h r)) := by
  pointwise [less]

/-- The shifted scores at a position. -/
theorem shifted_apply (x : FVec Ideal S32x1024x4096 .f32) (h : Fin 32) (r : Fin 1024) (κ : Fin 4096) :
    shifted x (ix3 h r κ) = x (ix3 h r κ) - Finset.univ.fold max ⊥ fun j : Fin 4096 => x (ix3 h r j) := by
  rw [shifted, less_apply, rowMax_apply, AttnConsts.neg_inf, max_eq_right bot_le]

/-- The host's exponential at an index. -/
theorem exp_apply (y : FVec Ideal S32x1024x4096 .f32) (i : S32x1024x4096.Idx) : Host.exp y i = Ideal.exp (y i) := rfl

/-- The exponentials at a position. -/
theorem exps_apply (x : FVec Ideal S32x1024x4096 .f32) (h : Fin 32) (r : Fin 1024) (κ : Fin 4096) :
    exps x (ix3 h r κ)
      = Ideal.exp (x (ix3 h r κ) - Finset.univ.fold max ⊥ fun j : Fin 4096 => x (ix3 h r j)) := by
  rw [exps, exp_apply, shifted_apply]

/-- A row's share at a position. -/
theorem shares_apply (w : FVec Ideal S32x1024x4096 .f32) (h : Fin 32) (r : Fin 1024) (κ : Fin 4096) :
    shares w (ix3 h r κ) = Ideal.div (w (ix3 h r κ)) (∑ j : Fin 4096, w (ix3 h r j)) := by
  pointwise [shares]

/-- The weighted values at a row, a head and a feature. -/
theorem mix_apply (p : FVec Ideal S32x1024x4096 .f32) (v : FVec Ideal S4096x8x128 .f32) (r : Fin 1024) (h : Fin 32) (e : Fin 128) :
    mix p v (ix2 r ⟨h.val * 128 + e.val, by omega⟩)
      = ∑ κ : Fin 4096, p (ix3 h r κ) * v (ix3 κ ⟨h.val / 4, by omega⟩ e) := by
  pointwise [mix]

end Cert.ReferenceIdeal.Attn

end
-- ==== Proof.Softmax.lean ====
/- The equation over the extended reals: a softmax of real scores, applied to any values, may be taken without first
   subtracting the maximum, and with one division at the end. -/
module

public import Idealize.ShloMosaic.PureOps.Ideal

@[expose] public section

noncomputable section

namespace Cert.Softmax

open Idealize.ShloMosaic

variable {ι : Type} [Fintype ι]

/-- A sum of reals, read as extended reals, is the sum read as an extended real. -/
theorem coe_sum (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A nonnegative real factor moves into a sum of any extended reals. -/
theorem sum_mul (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.2 hc) (EReal.coe_ne_top c) _ _

/-- The maximum of finitely many reals, at least one, is a real. -/
theorem max_real [Nonempty ι] (s : ι → ℝ) : ∃ μ : ℝ, (Finset.univ.fold max ⊥ fun i => ((s i : ℝ) : EReal)) = μ := by
  obtain ⟨i, -, h⟩ := Finset.exists_mem_eq_sup (Finset.univ : Finset ι) Finset.univ_nonempty fun i => ((s i : ℝ) : EReal)
  exact ⟨s i, h⟩

/-- The exponential of a difference of reals. -/
theorem exp_sub (a μ : ℝ) : Ideal.exp ((a : EReal) - (μ : EReal)) = ((Real.exp a * Real.exp (-μ) : ℝ) : EReal) := by
  rw [← EReal.coe_sub, Ideal.exp_coe, sub_eq_add_neg, Real.exp_add]

/-- Weighted values over weights, without the maximum, are the values weighted by the softmax with it. -/
theorem softmax_eq [Nonempty ι] (s : ι → ℝ) (w : ι → EReal) :
    Ideal.div (∑ i, ((Real.exp (s i) : ℝ) : EReal) * w i) (∑ i, ((Real.exp (s i) : ℝ) : EReal))
      = ∑ i, Ideal.div (Ideal.exp ((s i : EReal) - Finset.univ.fold max ⊥ fun j => ((s j : ℝ) : EReal)))
          (∑ j, Ideal.exp ((s j : EReal) - Finset.univ.fold max ⊥ fun l => ((s l : ℝ) : EReal))) * w i := by
  obtain ⟨μ, hμ⟩ := max_real s
  rw [hμ]
  simp only [exp_sub]
  rw [coe_sum, coe_sum, ← Finset.sum_mul]
  have hS : 0 < ∑ i, Real.exp (s i) := Finset.sum_pos (fun i _ => Real.exp_pos _) Finset.univ_nonempty
  have hμ' := Real.exp_pos (-μ)
  rw [Ideal.div_coe hS.ne', sum_mul _ _ (one_div_nonneg.2 hS.le)]
  refine Finset.sum_congr rfl fun i _ => ?_
  rw [Ideal.div_coe (mul_pos hS hμ').ne', mul_right_comm, ← EReal.coe_mul, ← EReal.coe_mul]
  congr 2
  field_simp

/-- Raising two to a score on the scale of base two is the exponential of the score. -/
theorem exp2_scaled (x : ℝ) : Ideal.exp2 (((x * (Real.log 2)⁻¹ : ℝ)) : EReal) = ((Real.exp x : ℝ) : EReal) := by
  have h2 : Real.log 2 ≠ 0 := (Real.log_pos (by norm_num)).ne'
  rw [Ideal.exp2_coe]
  congr 1
  show (2 : ℝ) ^ (x * (Real.log 2)⁻¹) = Real.exp x
  rw [Real.rpow_def_of_pos (by norm_num)]
  congr 1
  field_simp

/-- The kernel's weight of real queries and keys: the constant `(log 2)⁻¹ (√128)⁻¹` folded into the queries turns the
    power of two into the exponential of the scaled score. -/
theorem weight_real (q k : ι → ℝ) (c : ℝ) :
    Ideal.exp2 (∑ i, ((q i : ℝ) : EReal) * (((Real.log 2)⁻¹ * c : ℝ) : EReal) * ((k i : ℝ) : EReal))
      = ((Real.exp ((∑ i, q i * k i) * c) : ℝ) : EReal) := by
  simp only [← EReal.coe_mul]
  rw [coe_sum, ← exp2_scaled]
  congr 2
  rw [Finset.sum_mul, Finset.sum_mul]
  exact Finset.sum_congr rfl fun i _ => by ring

/-- The reference's score of real queries and keys. -/
theorem score_real (q k : ι → ℝ) (c : ℝ) :
    (∑ i, ((q i : ℝ) : EReal) * ((k i : ℝ) : EReal)) * (c : EReal) = (((∑ i, q i * k i) * c : ℝ) : EReal) := by
  simp only [← EReal.coe_mul]
  rw [coe_sum, ← EReal.coe_mul]

end Cert.Softmax

end
-- ==== Proof.Equation.lean ====
/- The kernel's result is the reference's, over the extended reals, when the mask hides no key and the queries and the
   keys are real. -/
module

public import proofs.«01_k».proof.Proof.Array
public import proofs.«01_k».proof.Proof.Reference
public import proofs.«01_k».proof.Proof.Softmax

@[expose] public section

set_option maxRecDepth 16384

noncomputable section

namespace Cert.Equation

open Idealize.ShloMosaic
open Cert.KernelIdeal Cert.KernelIdeal.Attn Cert.ReferenceIdeal.Attn

variable (q : Vec Ideal S1024x4096 .f32) (k v : Vec Ideal S4096x8x128 .f32)

/-- The real score of a row against a key, for a query head. -/
def realScore (q : S1024x4096.Idx → ℝ) (k : S4096x8x128.Idx → ℝ) (r : Fin 1024) (h : Fin 32) (κ : Fin 4096) : ℝ :=
  (∑ d : Fin 128, q (ix2 r ⟨h.val * 128 + d.val, by omega⟩) * k (ix3 κ ⟨h.val / 4, by omega⟩ d)) * (Real.sqrt 128)⁻¹

/-- The kernel's weight of a key is the exponential of the real score. -/
theorem weight_eq (q' : S1024x4096.Idx → ℝ) (k' : S4096x8x128.Idx → ℝ) (hq : ∀ i, q i = q' i) (hk : ∀ i, k i = k' i)
    (r : Fin 1024) (h : Fin 32) (κ : Fin 4096) : weight q k r h κ = ((Real.exp (realScore q' k' r h κ) : ℝ) : EReal) := by
  simp only [weight, hq, hk]
  exact Softmax.weight_real _ _ _

/-- The reference's scaled score of a key is the real score. -/
theorem logit_eq (q' : S1024x4096.Idx → ℝ) (k' : S4096x8x128.Idx → ℝ) (hq : ∀ i, q i = q' i) (hk : ∀ i, k i = k' i)
    (r : Fin 1024) (h : Fin 32) (κ : Fin 4096) : logit q k r h κ = ((realScore q' k' r h κ : ℝ) : EReal) := by
  simp only [logit, hq, hk]
  exact Softmax.score_real _ _ _

/-- One entry of the two results: the quotient of the weighted sums is the sum weighted by the softmax. -/
theorem entry_eq (mask : IVec S1024x4096 1) (hm : ∀ i, mask i = 1#1) (hq : ∀ i, ∃ x : ℝ, q i = x) (hk : ∀ i, ∃ x : ℝ, k i = x)
    (r : Fin 1024) (h : Fin 32) (e : Fin 128) :
    headOut q k v r h e
      = ∑ κ : Fin 4096, shares (exps (logits q k mask)) (ix3 h r κ) * v (ix3 κ ⟨h.val / 4, by omega⟩ e) := by
  choose q' hq using hq
  choose k' hk using hk
  simp only [headOut, weight_eq q k q' k' hq hk, shares_apply, exps_apply, logits_apply q k mask hm,
    logit_eq q k q' k' hq hk]
  exact Softmax.softmax_eq _ _

/-- The two results agree at every index. -/
theorem attn_eq_mix (mask : IVec S1024x4096 1) (hm : ∀ i, mask i = 1#1) (hq : ∀ i, ∃ x : ℝ, q i = x)
    (hk : ∀ i, ∃ x : ℝ, k i = x) : attn q k v = mix (shares (exps (logits q k mask))) v := by
  funext i
  obtain ⟨r, c, rfl⟩ : ∃ (r : Fin 1024) (c : Fin 4096), i = ix2 r c := ⟨i 0, i 1, eq_ix2 i⟩
  have hc : c = ⟨c.val / 128 * 128 + c.val % 128, by omega⟩ := Fin.ext (by dsimp only; omega)
  rw [hc]
  rw [attn_of q k v _ r ⟨c.val / 128, by omega⟩ ⟨c.val % 128, by omega⟩ rfl rfl]
  rw [entry_eq q k v mask hm hq hk]
  exact (mix_apply _ v r ⟨c.val / 128, by omega⟩ ⟨c.val % 128, by omega⟩).symm

end Cert.Equation

end
-- ==== Proof.Visible.lean ====
/- What the precondition says of the arguments: every mask entry is set, and every query and key entry is a real number. -/
module

public import proofs.«01_k».proof.Defs
public import proofs.«01_k».proof.Proof.Consts
public import Idealize.ShloMosaic.Lib.Pointwise
public import Idealize.ShloMosaic.Lib.ReduceAll

@[expose] public section

set_option maxRecDepth 16384

noncomputable section

namespace Cert.Pre_every_key_visible

open Idealize.ShloMosaic

variable [Facts]

/-- The result's shape has one index. -/
theorem one_index : Subsingleton S_.Idx := ⟨fun a b => funext fun i => i.elim0⟩

/-- An extended real whose absolute value is below the greatest one is a real. -/
theorem real_of_abs_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- The comparison of an array's absolute values with a constant array of the greatest extended real, at an index. -/
theorem finite_apply {s : Shape} (x : FVec Ideal s .f32) (hb : S_.BroadcastsInDim s ![]) (i : s.Idx)
    (h : cmpf .olt (Host.absf x) (broadcastInDim s ![] hb (constant S_ .f32 0x7F800000#32)) i = 1#1) :
    ∃ r : ℝ, x i = r := by
  refine real_of_abs_lt (x i) (Eq.trans ?_ h)
  rw [← Cert.AttnConsts.pos_inf]
  rfl

/-- The precondition, read at every entry of the mask, the queries and the keys. -/
theorem fn_one (q : FVec Ideal S1024x4096 .f32) (k v : FVec Ideal S4096x8x128 .f32) (mask : IVec S1024x4096 1)
    (h : fn q k v mask = fun _ => 1#1) :
    (∀ i, mask i = 1#1) ∧ (∀ i, ∃ r : ℝ, q i = (r : EReal)) ∧ ∀ i, ∃ r : ℝ, k i = (r : EReal) := by
  haveI := one_index
  have e := congrFun h fun a => a.elim0
  dsimp only [fn, andi] at e
  rw [IntOp.andi_eq_one, IntOp.andi_eq_one] at e
  exact ⟨Host.reduce_andi_all _ _ _ _ _ e.1.1, fun i => finite_apply q _ i (Host.reduce_andi_all _ _ _ _ _ e.1.2 i),
    fun i => finite_apply k _ i (Host.reduce_andi_all _ _ _ _ _ e.2 i)⟩

end Cert.Pre_every_key_visible

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_every_key_visible
public import proofs.«01_k».proof.Proof.Equation
public import proofs.«01_k».proof.Proof.Visible
public import Idealize.ShloMosaic.Lib.Quiescent
public import Idealize.ShloMosaic.Adequacy
public import Idealize.ShloMosaic.Init

@[expose] public section

noncomputable section

namespace Cert.Proof

open Idealize.ShloMosaic Idealize.SL.Sem

/-- The kernel's run keeps its arguments and leaves every semaphore at zero. -/
theorem frame_kernel : Cert.quiescent_Kernel := fun m ρ _ => Cert.Kernel.Gen.frame m ρ

/-- So does the run of its idealization. -/
theorem frame_ideal : Cert.quiescent_KernelIdeal := fun m ρ _ => Cert.KernelIdeal.Gen.frame m ρ

/-- So does the run of its idealization from memories that meet the precondition. -/
theorem frame_ideal_pre : Cert.quiescent_KernelIdeal_pre_every_key_visible := fun m ρ _ => Cert.KernelIdeal.Gen.frame m ρ

/-- The reference's run keeps its arguments; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from memories that meet the precondition. -/
theorem frame_reference_pre : Cert.quiescent_ReferenceIdeal_pre_every_key_visible := fun m ρ _ => frame_reference m ρ trivial

/-- The idealization differs from the kernel by the scale's name alone. -/
theorem preserves : Cert.preserves_Kernel_KernelIdeal :=
  IdealRules.named_const.statement Cert.KernelIdeal.κ "log2e_inv_sqrt_d" .f32 0x3E0293EE#32
    (((Real.log 2)⁻¹ * (Real.sqrt 128)⁻¹ : ℝ) : EReal) rfl

/-- From memories that agree on the arguments and meet the precondition, the two programs leave the same result. -/
theorem algebraic : Cert.algebraic_KernelIdeal_ReferenceIdeal_pre_every_key_visible := by
  intro m ρ m' ρ' hpre hagree
  refine ⟨_, (θ_run Cert.KernelIdeal.defs _ _).mono
      (fun _ h c => ⟨(h c).1.trans (Cert.KernelIdeal.Attn.final m c), (h c).2⟩)
      (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨hm, hq, hk⟩ := Cert.Pre_every_key_visible.fn_one _ _ _ _ (hpre c)
  rw [Cert.ReferenceIdeal.Attn.res_eq, h0, h1, h2, h3]
  exact (Cert.Equation.attn_eq_mix _ _ _ _ hm hq hk).symm

/-- The claims, together. -/
theorem claim : Cert.Claim :=
  ⟨Cert.Kernel.Gen.facts, Cert.KernelIdeal.Gen.facts, Cert.ReferenceIdeal.Gen.facts, Cert.Pre_every_key_visible.Gen.facts,
    frame_kernel, frame_ideal, frame_ideal_pre, frame_reference, frame_reference_pre, preserves, algebraic⟩

end Cert.Proof

end
